-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x32 : Shape := ⟨3, ![8, 256, 32]⟩
abbrev S8192x32 : Shape := ⟨2, ![8192, 32]⟩
abbrev S_ : Shape := ⟨0, ![]⟩

class Facts : Prop where
  bcast_S_S8x256x32 : S_.BroadcastsInDim S8x256x32 (![] : Fin 0 → Fin S8x256x32.rank)
  reducesTo_S8x256x32_S_d0_1_2 : S8x256x32.ReducesTo [0, 1, 2] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S8x256x32 .f32) (main_arg1 : FVec F S8192x32 .f32) : IVec S_ 1 :=
  let main_v0 : FVec F S8x256x32 .f32 := Host.absf main_arg0
  let main_cst : FVec F S_ .f32 := constant S_ .f32 0x7F800000#32
  let main_v1 : FVec F S8x256x32 .f32 := broadcastInDim S8x256x32 ![] bcast_S_S8x256x32 main_cst
  let main_v2 : IVec S8x256x32 1 := cmpf .olt main_v0 main_v1
  let main_c : IVec S_ 1 := constantI S_ 1 1#1
  let main_v3 : IVec S_ 1 := (fun x v => Host.reduce IntOp.andi x v reducesTo_S8x256x32_S_d0_1_2 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S8x256x32 : Shape := ⟨3, ![8, 256, 32]⟩
abbrev S8192x32 : Shape := ⟨2, ![8192, 32]⟩
abbrev S256x8x32 : Shape := ⟨3, ![256, 8, 32]⟩
abbrev S2048x32 : Shape := ⟨2, ![2048, 32]⟩
abbrev S8x2097152 : Shape := ⟨2, ![8, 2097152]⟩
abbrev S256x32 : Shape := ⟨2, ![256, 32]⟩
abbrev S8x262144 : Shape := ⟨2, ![8, 262144]⟩
abbrev S1x8192 : Shape := ⟨2, ![1, 8192]⟩
abbrev S8192 : Shape := ⟨1, ![8192]⟩
abbrev S256 : Shape := ⟨1, ![256]⟩
abbrev S256x1 : Shape := ⟨2, ![256, 1]⟩
abbrev S256x2048 : Shape := ⟨2, ![256, 2048]⟩
abbrev S1x2048 : Shape := ⟨2, ![1, 2048]⟩
abbrev S8x8192 : Shape := ⟨2, ![8, 8192]⟩
abbrev S8x1 : Shape := ⟨2, ![8, 1]⟩

abbrev nBuf : Space → Nat
  | .hbm => 5
  | .vmem => 7
  | .smem => 0
  | _ => 0

abbrev bufTy : (tb : Table) → Fin (tcTables nBuf tb) → BufTy
  | .hbm, ⟨0, _⟩ => ⟨S8x256x32, .f32⟩
  | .hbm, ⟨1, _⟩ => ⟨S8192x32, .f32⟩
  | .hbm, ⟨2, _⟩ => ⟨S256x8x32, .f32⟩
  | .hbm, ⟨3, _⟩ => ⟨S2048x32, .f32⟩
  | .hbm, ⟨4, _⟩ => ⟨S8x2097152, .i32⟩
  | .local _ .vmem, ⟨0, _⟩ => ⟨S256x32, .f32⟩
  | .local _ .vmem, ⟨1, _⟩ => ⟨S256x32, .f32⟩
  | .local _ .vmem, ⟨2, _⟩ => ⟨S8192x32, .f32⟩
  | .local _ .vmem, ⟨3, _⟩ => ⟨S8x262144, .i32⟩
  | .local _ .vmem, ⟨4, _⟩ => ⟨S8x262144, .i32⟩
  | .local _ .vmem, ⟨5, _⟩ => ⟨S1x8192, .f32⟩
  | .local _ .vmem, ⟨6, _⟩ => ⟨S8192x32, .f32⟩
  | _, _ => ⟨S8x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x262144 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x256x32 : Shape := ⟨3, ![8, 256, 32]⟩
abbrev S8192x32 : Shape := ⟨2, ![8192, 32]⟩
abbrev S_ : Shape := ⟨0, ![]⟩
abbrev S8x256 : Shape := ⟨2, ![8, 256]⟩
abbrev S8x256x1 : Shape := ⟨3, ![8, 256, 1]⟩
abbrev S8192 : Shape := ⟨1, ![8192]⟩
abbrev S8x256x8192 : Shape := ⟨3, ![8, 256, 8192]⟩
abbrev S1x1x8192 : Shape := ⟨3, ![1, 1, 8192]⟩
abbrev S8x2097152 : Shape := ⟨2, ![8, 2097152]⟩

abbrev nBuf : Space → Nat
  | .hbm => 31
  | .vmem => 0
  | .smem => 0
  | _ => 0

abbrev bufTy : (tb : Table) → Fin (tcTables nBuf tb) → BufTy
  | .hbm, ⟨0, _⟩ => ⟨S8x256x32, .f32⟩
  | .hbm, ⟨1, _⟩ => ⟨S8192x32, .f32⟩
  | .hbm, ⟨2, _⟩ => ⟨S8x256x32, .f32⟩
  | .hbm, ⟨3, _⟩ => ⟨S_, .f32⟩
  | .hbm, ⟨4, _⟩ => ⟨S8x256, .f32⟩
  | .hbm, ⟨5, _⟩ => ⟨S8x256x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S8x256x8192, .f32⟩
  | .hbm, ⟨10, _⟩ => ⟨S_, .f32⟩
  | .hbm, ⟨11, _⟩ => ⟨S8x256x8192, .f32⟩
  | .hbm, ⟨12, _⟩ => ⟨S8x256x8192, .f32⟩
  | .hbm, ⟨13, _⟩ => ⟨S8x256x8192, .f32⟩
  | .hbm, ⟨14, _⟩ => ⟨S8x256x8192, .f32⟩
  | .hbm, ⟨15, _⟩ => ⟨S1x1x8192, .f32⟩
  | .hbm, ⟨16, _⟩ => ⟨S8x256x8192, .f32⟩
  | .hbm, ⟨17, _⟩ => ⟨S8x256x8192, .f32⟩
  | .hbm, ⟨18, _⟩ => ⟨S8x256x8192, .i32⟩
  | .hbm, ⟨19, _⟩ => ⟨S_, .f32⟩
  | .hbm, ⟨20, _⟩ => ⟨S_, .i32⟩
  | .hbm, ⟨21, _⟩ => ⟨S8x256, .f32⟩
  | .hbm, ⟨22, _⟩ => ⟨S8x256, .i32⟩
  | .hbm, ⟨23, _⟩ => ⟨S8x256x1, .i32⟩
  | .hbm, ⟨24, _⟩ => ⟨S8192, .i32⟩
  | .hbm, ⟨25, _⟩ => ⟨S1x1x8192, .i32⟩
  | .hbm, ⟨26, _⟩ => ⟨S8x256x8192, .i32⟩
  | .hbm, ⟨27, _⟩ => ⟨S8x256x8192, .i32⟩
  | .hbm, ⟨28, _⟩ => ⟨S8x256x8192, .i1⟩
  | .hbm, ⟨29, _⟩ => ⟨S8x256x8192, .i32⟩
  | .hbm, ⟨30, _⟩ => ⟨S8x2097152, .i32⟩
  | _, _ => ⟨S8x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Block.lean ====
/- WHAT ONE GRID POINT WRITES. The body ends in 32 stores, one per token of the block: store `q` fills lanes
   `8192 q .. 8192 q + 8191` of the block's 8 rows with the one-hot rows of the code words `8 q .. 8 q + 7`. So the block
   that a point leaves is one function of the 256 code words (`expand`), and the code words are one function of the
   point's rows and of the two tables it reads (`codes`). -/
module

public import proofs.«01_k».proof.Proof.Gen.KernelIdeal.Value
public import Idealize.ShloMosaic.Lib.ValueIdx
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe

variable {F : FTy → Type} [FloatOps F]

/-- Row `8 (l / 8192) + b` of the 256 code words: the row that lane `l` of output row `b` shows. -/
def rowOf (y : S8x262144.Idx) : Fin 256 :=
  ⟨8 * ((y 1).val / 8192) + (y 0).val, by
    have h0 : (y 0).val < 8 := (y 0).isLt
    have h1 : (y 1).val < 262144 := (y 1).isLt
    omega⟩

/-- The block of one-hot rows that the code words `v` stand for. -/
def expand (v : IVec S256x1 32) : IVec S8x262144 32 := fun y =>
  if v (ix2 (rowOf y) 0) = BitVec.ofNat 32 ((y 1).val % 8192) then 1#32 else 0#32

/-- One store's payload — eight code words from row `o` on, compared with the lane number — is the part of the block
    of one-hot rows that starts at lane `n = 8192 (o / 8)`. -/
theorem piece_apply (v : IVec S256x1 32) (o n : Nat) (hs : S256x1.Slices ![o, 0] S8x1) (hb : S8x1.Broadcasts S8x8192)
    (hi : S8x8192.Iotas .tc 32 [1]) (inb : ∀ a, (![0, n] : Fin 2 → Nat) a + S8x8192.size a ≤ S8x262144.size a)
    (ho : o = 8 * (o / 8)) (hn : n = 8192 * (o / 8)) (z : S8x8192.Idx) :
    extui 32 (cmpi .eq (broadcastTo S8x8192 (extractStridedSlice S8x1 ![o, 0] v hs) hb) (iota .tc S8x8192 32 [1] hi)) natLt_1_32 z
      = expand v ((Rect.unit (s := S8x262144) ![0, n] S8x8192.size inb).emb z) := by
  obtain ⟨a, b, rfl⟩ : ∃ a b, z = ix2 a b := ⟨z 0, z 1, eq_ix2 z⟩
  have e0 : (((Rect.unit (s := S8x262144) ![0, n] S8x8192.size inb).emb (ix2 a b)) 0).val = a.val := by
    show 0 + 1 * a.val = a.val
    omega
  have e1 : (((Rect.unit (s := S8x262144) ![0, n] S8x8192.size inb).emb (ix2 a b)) 1).val = n + b.val := by
    show n + 1 * b.val = n + b.val
    omega
  have hb' : b.val < 8192 := b.isLt
  have ha' : a.val < 8 := a.isLt
  have row : extractStridedSlice S8x1 ![o, 0] v hs (ix2 a 0)
      = v (ix2 (rowOf ((Rect.unit (s := S8x262144) ![0, n] S8x8192.size inb).emb (ix2 a b))) 0) := by
    refine congrArg v (funext fun d => Fin.ext ?_)
    match d with
    | ⟨0, _⟩ =>
      show o + a.val = 8 * ((((Rect.unit (s := S8x262144) ![0, n] S8x8192.size inb).emb (ix2 a b)) 1).val / 8192)
        + (((Rect.unit (s := S8x262144) ![0, n] S8x8192.size inb).emb (ix2 a b)) 0).val
      rw [e0, e1]
      omega
    | ⟨1, _⟩ => rfl
  have lane : iota .tc S8x8192 32 [1] hi (ix2 a b)
      = BitVec.ofNat 32 ((((Rect.unit (s := S8x262144) ![0, n] S8x8192.size inb).emb (ix2 a b)) 1).val % 8192) := by
    rw [e1]
    unfold iota
    simp only [List.foldl_cons, List.foldl_nil, Nat.zero_mul, Nat.zero_add]
    congr 1
    show b.val = (n + b.val) % 8192
    omega
  have bc : broadcastTo S8x8192 (extractStridedSlice S8x1 ![o, 0] v hs) hb (ix2 a b)
      = extractStridedSlice S8x1 ![o, 0] v hs (ix2 a 0) := by
    unfold broadcastTo
    refine congrArg (extractStridedSlice S8x1 ![o, 0] v hs) (funext fun d => Fin.ext ?_)
    match d with
    | ⟨0, _⟩ => rfl
    | ⟨1, _⟩ => rfl
  show (IntOp.cmpi .eq (broadcastTo S8x8192 (extractStridedSlice S8x1 ![o, 0] v hs) hb (ix2 a b))
    (iota .tc S8x8192 32 [1] hi (ix2 a b))).setWidth 32 = _
  rw [bc, row, lane]
  unfold expand IntOp.cmpi
  by_cases h : v (ix2 (rowOf ((Rect.unit (s := S8x262144) ![0, n] S8x8192.size inb).emb (ix2 a b))) 0)
      = BitVec.ofNat 32 ((((Rect.unit (s := S8x262144) ![0, n] S8x8192.size inb).emb (ix2 a b)) 1).val % 8192)
  · rw [if_pos h]; simp only [h, beq_self_eq_true]; rfl
  · rw [if_neg h]; simp only [beq_eq_false_iff_ne.mpr h]; rfl

/-- The least distance of each row, over the four chunks of the codebook. -/
def least (x : Vec F S256x32 .f32) (u0 u1 u2 u3 : Vec F S2048x32 .f32) (s0 s1 s2 s3 : Vec F S1x2048 .f32) :
    FVec F S256x1 .f32 :=
  k0_pay11 (k0_pay3 x) (k0_pay4 x) (k0_pay7 x u0 s0 u1 s1) (k0_pay9 x u2 s2) u3 s3

/-- The code word of each row: the least codebook row, over the four chunks, at which the row's distance is the least. -/
def codes (x : Vec F S256x32 .f32) (u0 u1 u2 u3 : Vec F S2048x32 .f32) (s0 s1 s2 s3 : Vec F S1x2048 .f32) :
    IVec S256x1 32 :=
  k0_pay14 (k0_pay4 x) (k0_pay10 (k0_pay3 x) u3) (least x u0 u1 u2 u3 s0 s1 s2 s3)
    (k0_pay12 (k0_pay3 x) (k0_pay4 x) (k0_pay5 x u0) (k0_pay6 x u1) (k0_pay7 x u0 s0 u1 s1) (k0_pay9 x u2 s2) u3 s3 s0 s1)
    (iota .tc S256x2048 32 [1] iota_S256x2048_d1_w32) (k0_pay13 (k0_pay4 x) (k0_pay8 x u2)) s2 s3

/-- Chunk `n` (its first row) of the table of scaled codebook rows. -/
abbrev rows (n : Nat) (h : ∀ a, (![n, 0] : Fin 2 → Nat) a + S2048x32.size a ≤ S8192x32.size a) (w : Vec F S8192x32 .f32) :
    Vec F S2048x32 .f32 := View.ld w (Rect.unit (s := S8192x32) ![n, 0] S2048x32.size h)

/-- Chunk `n` (its first lane) of the row of squared norms. -/
abbrev lanes (n : Nat) (h : ∀ a, (![0, n] : Fin 2 → Nat) a + S1x2048.size a ≤ S1x8192.size a) (s : Vec F S1x8192 .f32) :
    Vec F S1x2048 .f32 := View.ld s (Rect.unit (s := S1x8192) ![0, n] S1x2048.size h)

/-- The code words of the rows `x` against the whole tables `s` (squared norms) and `u` (scaled rows). -/
def codesAt (x : Vec F S256x32 .f32) (s : Vec F S1x8192 .f32) (u : Vec F S8192x32 .f32) : IVec S256x1 32 :=
  codes x (rows 0 inb_S8192x32_S2048x32_0_0 u) (rows 2048 inb_S8192x32_S2048x32_2048_0 u)
    (rows 4096 inb_S8192x32_S2048x32_4096_0 u) (rows 6144 inb_S8192x32_S2048x32_6144_0 u)
    (lanes 0 inb_S1x8192_S1x2048_0_0 s) (lanes 2048 inb_S1x8192_S1x2048_0_2048 s)
    (lanes 4096 inb_S1x8192_S1x2048_0_4096 s) (lanes 6144 inb_S1x8192_S1x2048_0_6144 s)

/-- The offset of a whole buffer is zero on both axes. -/
theorem hz : (![0, 0] : Fin 2 → Nat) = fun _ => 0 := funext fun a => by fin_cases a <;> rfl

/-- A point other than the first leaves the one-hot rows of the code words against the tables it finds in scratch. -/
theorem out_B (c : Dev nD) (i : grid0.Coords) (a1 : Memref sig .tc .vmem S256x32 .f32) (h1 : a1.IsWhole)
    (a2 : Memref sig .tc .vmem S8192x32 .f32) (h2 : a2.IsWhole) (a3 : Memref sig .tc .vmem S8x262144 .i32) (h3 : a3.IsWhole)
    (a4 : Memref sig .tc .vmem S1x8192 .f32) (h4 : a4.IsWhole) (a5 : Memref sig .tc .vmem S8192x32 .f32) (h5 : a5.IsWhole)
    (hc : ¬cond0_0 i) (x : Vec F S256x32 .f32) (w : Vec F S8192x32 .f32) (s : Vec F S1x8192 .f32) (u : Vec F S8192x32 .f32) :
    out0_B_2 c i a1 h1 a2 h2 a3 h3 a4 h4 a5 h5 hc x w s u = expand (codesAt x s u) := by
  funext y
  unfold out0_B_2
  refine View.read_writes_apply_of_pieces _ _ (expand (codesAt x s u)) _ ?_ y (cover0_B_2 c i a1 h1 a2 h2 a3 h3 a4 h4 a5 h5 hc x w s u y)
  have e : codesAt x s u = codes (F := F)
      (View.readAt (Elt F) a1.view (Rect.unit ![0, 0] S256x32.size inb_S256x32_S256x32_0_0).toLoadRect (h1.unread x))
      (View.readAt (Elt F) a5.view (Rect.unit (s := S8192x32) ![0, 0] S2048x32.size inb_S8192x32_S2048x32_0_0).toLoadRect (h5.unread u))
      (View.readAt (Elt F) a5.view (Rect.unit (s := S8192x32) ![2048, 0] S2048x32.size inb_S8192x32_S2048x32_2048_0).toLoadRect (h5.unread u))
      (View.readAt (Elt F) a5.view (Rect.unit (s := S8192x32) ![4096, 0] S2048x32.size inb_S8192x32_S2048x32_4096_0).toLoadRect (h5.unread u))
      (View.readAt (Elt F) a5.view (Rect.unit (s := S8192x32) ![6144, 0] S2048x32.size inb_S8192x32_S2048x32_6144_0).toLoadRect (h5.unread u))
      (View.readAt (Elt F) a4.view (Rect.unit (s := S1x8192) ![0, 0] S1x2048.size inb_S1x8192_S1x2048_0_0).toLoadRect (h4.unread s))
      (View.readAt (Elt F) a4.view (Rect.unit (s := S1x8192) ![0, 2048] S1x2048.size inb_S1x8192_S1x2048_0_2048).toLoadRect (h4.unread s))
      (View.readAt (Elt F) a4.view (Rect.unit (s := S1x8192) ![0, 4096] S1x2048.size inb_S1x8192_S1x2048_0_4096).toLoadRect (h4.unread s))
      (View.readAt (Elt F) a4.view (Rect.unit (s := S1x8192) ![0, 6144] S1x2048.size inb_S1x8192_S1x2048_0_6144).toLoadRect (h4.unread s)) := by
    simp only [View.readAt_eq_ld, h1.read_unread, h4.read_unread, h5.read_unread, View.ld_unit_zero (S := S256x32) hz]
    rfl
  rw [e]
  unfold kernelRun0_B
  dsimp only
  sl_unfold_words
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun z => piece_apply _ _ _ _ _ _ _ (by decide) (by decide) z

/-- A load that follows one store of a whole buffer reads that store's payload through the load's rectangle. -/
theorem load_after_store {S : Shape} {e : EltTy} {sp : Space} (v : View sig .tc sp S e) {off : Fin S.rank → Nat} (h : off = fun _ => 0)
    (inb : ∀ a, off a + S.size a ≤ S.size a) (p : S.Idx → Elt F e) (r : Rect S) :
    v.readCov [(⟨Rect.unit off S.size inb, p⟩ : View.Piece (Elt F) S e)] r.toLoadRect = View.ld p r := by
  subst h
  rw [View.readCov_eq_canon_ld _ _ _ (fun y => ⟨_, List.mem_singleton_self _, by
    show y ∈ (Rect.whole S).set; rw [Rect.set_whole]; exact Finset.mem_univ y⟩), View.canon_unit_zero rfl]

/-- The first point leaves in the first scratch array the squared norms of the codebook rows. -/
theorem scratch_A_0 (c : Dev nD) (i : grid0.Coords) (a1 : Memref sig .tc .vmem S256x32 .f32) (h1 : a1.IsWhole)
    (a2 : Memref sig .tc .vmem S8192x32 .f32) (h2 : a2.IsWhole) (a3 : Memref sig .tc .vmem S8x262144 .i32) (h3 : a3.IsWhole)
    (a4 : Memref sig .tc .vmem S1x8192 .f32) (h4 : a4.IsWhole) (a5 : Memref sig .tc .vmem S8192x32 .f32) (h5 : a5.IsWhole)
    (hc : cond0_0 i) (x : Vec F S256x32 .f32) (w : Vec F S8192x32 .f32) :
    sout0_A_0 c i a1 h1 a2 h2 a3 h3 a4 h4 a5 h5 hc x w = k0_pay1 w := by
  unfold sout0_A_0
  rw [View.read_writes_eq_canon _ _ _ (scover0_A_0 c i a1 h1 a2 h2 a3 h3 a4 h4 a5 h5 hc x w)]
  unfold kernelRun0_A
  dsimp only
  sl_unfold_words
  rw [View.canon_unit_zero hz, View.readAt_eq_ld, h2.read_unread, View.ld_unit_zero (S := S8192x32) hz]

/-- The first point leaves in the second scratch array the codebook rows times minus two. -/
theorem scratch_A_1 (c : Dev nD) (i : grid0.Coords) (a1 : Memref sig .tc .vmem S256x32 .f32) (h1 : a1.IsWhole)
    (a2 : Memref sig .tc .vmem S8192x32 .f32) (h2 : a2.IsWhole) (a3 : Memref sig .tc .vmem S8x262144 .i32) (h3 : a3.IsWhole)
    (a4 : Memref sig .tc .vmem S1x8192 .f32) (h4 : a4.IsWhole) (a5 : Memref sig .tc .vmem S8192x32 .f32) (h5 : a5.IsWhole)
    (hc : cond0_0 i) (x : Vec F S256x32 .f32) (w : Vec F S8192x32 .f32) :
    sout0_A_1 c i a1 h1 a2 h2 a3 h3 a4 h4 a5 h5 hc x w = k0_pay2 w := by
  unfold sout0_A_1
  rw [View.read_writes_eq_canon _ _ _ (scover0_A_1 c i a1 h1 a2 h2 a3 h3 a4 h4 a5 h5 hc x w)]
  unfold kernelRun0_A
  dsimp only
  sl_unfold_words
  rw [View.canon_unit_zero hz, View.readAt_eq_ld, h2.read_unread, View.ld_unit_zero (S := S8192x32) hz]

/-- The first point leaves the one-hot rows of the code words against the tables it has just stored. -/
theorem out_A (c : Dev nD) (i : grid0.Coords) (a1 : Memref sig .tc .vmem S256x32 .f32) (h1 : a1.IsWhole)
    (a2 : Memref sig .tc .vmem S8192x32 .f32) (h2 : a2.IsWhole) (a3 : Memref sig .tc .vmem S8x262144 .i32) (h3 : a3.IsWhole)
    (a4 : Memref sig .tc .vmem S1x8192 .f32) (h4 : a4.IsWhole) (a5 : Memref sig .tc .vmem S8192x32 .f32) (h5 : a5.IsWhole)
    (hc : cond0_0 i) (x : Vec F S256x32 .f32) (w : Vec F S8192x32 .f32) :
    out0_A_2 c i a1 h1 a2 h2 a3 h3 a4 h4 a5 h5 hc x w = expand (codesAt x (k0_pay1 w) (k0_pay2 w)) := by
  funext y
  unfold out0_A_2
  refine View.read_writes_apply_of_pieces _ _ (expand (codesAt x (k0_pay1 w) (k0_pay2 w))) _ ?_ y
    (cover0_A_2 c i a1 h1 a2 h2 a3 h3 a4 h4 a5 h5 hc x w y)
  let W : Vec F S8192x32 .f32 := View.readAt (Elt F) a2.view (Rect.unit (s := S8192x32) ![0, 0] S8192x32.size inb_S8192x32_S8192x32_0_0).toLoadRect (h2.unread w)
  let L4 : List (View.Piece (Elt F) S1x8192 .f32) := [⟨Rect.unit ![0, 0] S1x8192.size inb_S1x8192_S1x8192_0_0, k0_pay1 W⟩]
  let L5 : List (View.Piece (Elt F) S8192x32 .f32) := [⟨Rect.unit ![0, 0] S8192x32.size inb_S8192x32_S8192x32_0_0, k0_pay2 W⟩]
  have hW : W = w := by
    dsimp only [W]
    rw [View.readAt_eq_ld, h2.read_unread, View.ld_unit_zero (S := S8192x32) hz]
  have e : codesAt x (k0_pay1 w) (k0_pay2 w) = codes (F := F)
      (View.readAt (Elt F) a1.view (Rect.unit ![0, 0] S256x32.size inb_S256x32_S256x32_0_0).toLoadRect (h1.unread x))
      (a5.view.readCov L5 (Rect.unit (s := S8192x32) ![0, 0] S2048x32.size inb_S8192x32_S2048x32_0_0).toLoadRect)
      (a5.view.readCov L5 (Rect.unit (s := S8192x32) ![2048, 0] S2048x32.size inb_S8192x32_S2048x32_2048_0).toLoadRect)
      (a5.view.readCov L5 (Rect.unit (s := S8192x32) ![4096, 0] S2048x32.size inb_S8192x32_S2048x32_4096_0).toLoadRect)
      (a5.view.readCov L5 (Rect.unit (s := S8192x32) ![6144, 0] S2048x32.size inb_S8192x32_S2048x32_6144_0).toLoadRect)
      (a4.view.readCov L4 (Rect.unit (s := S1x8192) ![0, 0] S1x2048.size inb_S1x8192_S1x2048_0_0).toLoadRect)
      (a4.view.readCov L4 (Rect.unit (s := S1x8192) ![0, 2048] S1x2048.size inb_S1x8192_S1x2048_0_2048).toLoadRect)
      (a4.view.readCov L4 (Rect.unit (s := S1x8192) ![0, 4096] S1x2048.size inb_S1x8192_S1x2048_0_4096).toLoadRect)
      (a4.view.readCov L4 (Rect.unit (s := S1x8192) ![0, 6144] S1x2048.size inb_S1x8192_S1x2048_0_6144).toLoadRect) := by
    simp only [L4, L5, load_after_store (S := S8192x32) _ hz, load_after_store (S := S1x8192) _ hz, hW]
    simp only [View.readAt_eq_ld, h1.read_unread, View.ld_unit_zero (S := S256x32) hz]
    rfl
  rw [e]
  unfold kernelRun0_A
  dsimp only
  sl_unfold_words
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun z => piece_apply _ _ _ _ _ _ _ (by decide) (by decide) z

end Cert.KernelIdeal.Hand

end
-- ==== Proof.First.lean ====
/- THE LEAST INDEX AT WHICH A LIST OF EXTENDED REALS IS LEAST: what both programs look for. Both are shown to find an
   index of which `IsFirst` holds; it holds of one index only. -/
module

public import Mathlib.Data.EReal.Operations
public import Mathlib.Data.Finset.Fold
public import Mathlib.Data.Finset.Max
public import Idealize.ShloMosaic.Lib.SortNet.Extract

@[expose] public section

noncomputable section

namespace Cert.Hand

open Idealize.ShloMosaic

/-- The value at `k` is at most every other, and no smaller index has a value that small. -/
def IsFirst {n : Nat} (f : Fin n → EReal) (k : Fin n) : Prop := (∀ j, f k ≤ f j) ∧ ∀ j, f j ≤ f k → k ≤ j

/-- A nonempty list has such an index. -/
theorem exists_isFirst {n : Nat} (f : Fin (n + 1) → EReal) : ∃ k, IsFirst f k := by
  obtain ⟨a, -, ha⟩ := Finset.exists_min_image Finset.univ f ⟨0, Finset.mem_univ _⟩
  obtain ⟨k, hk, hmin⟩ := Finset.exists_min_image (Finset.univ.filter fun j => f j ≤ f a) id
    ⟨a, Finset.mem_filter.mpr ⟨Finset.mem_univ _, le_refl _⟩⟩
  have hka := (Finset.mem_filter.mp hk).2
  exact ⟨k, fun j => hka.trans (ha j (Finset.mem_univ _)),
    fun j hj => hmin j (Finset.mem_filter.mpr ⟨Finset.mem_univ _, hj.trans hka⟩)⟩

/-- It has only one. -/
theorem IsFirst.unique {n : Nat} {f : Fin n → EReal} {k l : Fin n} (hk : IsFirst f k) (hl : IsFirst f l) : k = l :=
  le_antisymm (hk.2 l (hl.1 k)) (hl.2 k (hk.1 l))

/-- A fold of the signed minimum of words, in integers. -/
theorem toInt_fold_minsi {ι : Type} (g : ι → BitVec 32) (z : BitVec 32) (s : Finset ι) :
    (s.fold IntOp.minsi z g).toInt = s.fold min z.toInt fun i => (g i).toInt := by
  classical
  induction s using Finset.induction_on with
  | empty => rfl
  | insert a s ha ih => rw [Finset.fold_insert ha, Finset.fold_insert ha, SortNet.toInt_minsi, ih]

/-- A list of 8192 extended reals has a first least index. -/
theorem exists_first (f : Fin 8192 → EReal) : ∃ k, IsFirst f k := exists_isFirst (n := 8191) f

/-- The values of the list from index `n` on, 2048 of them. -/
def part (f : Fin 8192 → EReal) (n : Nat) (hn : n ≤ 6144) (j : Fin 2048) : EReal := f ⟨n + j.val, by have := j.isLt; omega⟩

/-- The least of a part, found by a fold from plus infinity. -/
def leastOf (f : Fin 8192 → EReal) (n : Nat) (hn : n ≤ 6144) : EReal := Finset.univ.fold min ⊤ (part f n hn)

/-- The word of the least index of a part at which the value is `v`, or 8192, found by a fold from the greatest word. -/
def firstOf (f : Fin 8192 → EReal) (n : Nat) (hn : n ≤ 6144) (v : EReal) : BitVec 32 :=
  Finset.univ.fold IntOp.minsi 2147483647#32
    fun j : Fin 2048 => if part f n hn j = v then IntOp.addi (BitVec.ofNat 32 j.val) (BitVec.ofNat 32 n) else 8192#32

variable {f : Fin 8192 → EReal} {k : Fin 8192}

/-- The value at the first least index is at most the least of a part. -/
theorem IsFirst.le_leastOf (hk : IsFirst f k) (n : Nat) (hn : n ≤ 6144) : f k ≤ leastOf f n hn :=
  (Finset.le_fold_min _).mpr ⟨le_top, fun _ _ => hk.1 _⟩

/-- The least of the part that holds an index is at most the value there. -/
theorem leastOf_le (n : Nat) (hn : n ≤ 6144) (h0 : n ≤ k.val) (h1 : k.val < n + 2048) : leastOf f n hn ≤ f k :=
  (Finset.fold_min_le _).mpr (Or.inr ⟨⟨k.val - n, by omega⟩, Finset.mem_univ _, le_of_eq (by
    unfold part; congr 1; exact Fin.ext (by show n + (k.val - n) = k.val; omega))⟩)

/-- So the least of the four parts is the value at the first least index. -/
theorem IsFirst.least_eq (hk : IsFirst f k) :
    min (min (min (leastOf f 0 (by omega)) (leastOf f 2048 (by omega))) (leastOf f 4096 (by omega))) (leastOf f 6144 (by omega)) = f k := by
  refine le_antisymm ?_ (le_min (le_min (le_min ?_ ?_) ?_) ?_)
  · have hlt := k.isLt
    simp only [min_le_iff]
    rcases (by omega : k.val < 2048 ∨ (2048 ≤ k.val ∧ k.val < 4096) ∨ (4096 ≤ k.val ∧ k.val < 6144) ∨ 6144 ≤ k.val) with h | h | h | h
    · exact Or.inl (Or.inl (Or.inl (leastOf_le _ _ (by omega) (by omega))))
    · exact Or.inl (Or.inl (Or.inr (leastOf_le _ _ (by omega) (by omega))))
    · exact Or.inl (Or.inr (leastOf_le _ _ (by omega) (by omega)))
    · exact Or.inr (leastOf_le _ _ (by omega) (by omega))
  all_goals exact hk.le_leastOf _ _

/-- The integer of a small word. -/
theorem toInt_small (a : Nat) (ha : a < 2147483648) : (BitVec.ofNat 32 a).toInt = (a : Int) := by
  rw [BitVec.toInt_eq_toNat_cond, BitVec.toNat_ofNat]
  omega

/-- The integer of the word that a part's index `j` gives to the fold. -/
theorem toInt_candidate (n : Nat) (hn : n ≤ 6144) (v : EReal) (j : Fin 2048) :
    (if part f n hn j = v then IntOp.addi (BitVec.ofNat 32 j.val) (BitVec.ofNat 32 n) else 8192#32).toInt
      = if part f n hn j = v then ((n + j.val : Nat) : Int) else 8192 := by
  have hj := j.isLt
  split
  · show (BitVec.ofNat 32 j.val + BitVec.ofNat 32 n).toInt = _
    rw [← BitVec.ofNat_add, toInt_small _ (by omega)]
    omega
  · rfl

/-- No part's word is below the first least index. -/
theorem IsFirst.le_firstOf (hk : IsFirst f k) (n : Nat) (hn : n ≤ 6144) : (k.val : Int) ≤ (firstOf f n hn (f k)).toInt := by
  have hlt := k.isLt
  unfold firstOf
  rw [toInt_fold_minsi]
  refine (Finset.le_fold_min _).mpr ⟨by rw [show (2147483647#32).toInt = 2147483647 from by decide]; omega, fun j _ => ?_⟩
  rw [toInt_candidate]
  split
  · next h =>
    have hkj : k.val ≤ n + j.val := hk.2 ⟨n + j.val, by have := j.isLt; omega⟩ (le_of_eq h)
    omega
  · omega

/-- The word of the part that holds the first least index is at most that index. -/
theorem firstOf_le (n : Nat) (hn : n ≤ 6144) (h0 : n ≤ k.val) (h1 : k.val < n + 2048) : (firstOf f n hn (f k)).toInt ≤ (k.val : Int) := by
  unfold firstOf
  rw [toInt_fold_minsi]
  refine (Finset.fold_min_le _).mpr (Or.inr ⟨⟨k.val - n, by omega⟩, Finset.mem_univ _, ?_⟩)
  have e : part f n hn ⟨k.val - n, by omega⟩ = f k := by
    unfold part; congr 1; exact Fin.ext (by show n + (k.val - n) = k.val; omega)
  rw [toInt_candidate, if_pos e]
  show ((n + (k.val - n) : Nat) : Int) ≤ _
  omega

/-- So the least of the four parts' words is the word of the first least index. -/
theorem IsFirst.first_eq (hk : IsFirst f k) :
    IntOp.minsi (IntOp.minsi (IntOp.minsi (firstOf f 0 (by omega) (f k)) (firstOf f 2048 (by omega) (f k)))
      (firstOf f 4096 (by omega) (f k))) (firstOf f 6144 (by omega) (f k)) = BitVec.ofNat 32 k.val := by
  have hlt := k.isLt
  refine BitVec.eq_of_toInt_eq ?_
  rw [SortNet.toInt_minsi, SortNet.toInt_minsi, SortNet.toInt_minsi, toInt_small _ (by omega)]
  refine le_antisymm ?_ (le_min (le_min (le_min ?_ ?_) ?_) ?_)
  · simp only [min_le_iff]
    rcases (by omega : k.val < 2048 ∨ (2048 ≤ k.val ∧ k.val < 4096) ∨ (4096 ≤ k.val ∧ k.val < 6144) ∨ 6144 ≤ k.val) with h | h | h | h
    · exact Or.inl (Or.inl (Or.inl (firstOf_le _ _ (by omega) (by omega))))
    · exact Or.inl (Or.inl (Or.inr (firstOf_le _ _ (by omega) (by omega))))
    · exact Or.inl (Or.inr (firstOf_le _ _ (by omega) (by omega)))
    · exact Or.inr (firstOf_le _ _ (by omega) (by omega))
  all_goals exact hk.le_firstOf _ _

end Cert.Hand
-- ==== Proof.Codes.lean ====
/- THE CODE WORDS AS AN INDEX. At the ideal values the code word of a row is the least index at which the row's list of
   distances to the codebook is least. -/
module

public import proofs.«01_k».proof.Proof.Block
public import proofs.«01_k».proof.Proof.First

@[expose] public section

set_option maxRecDepth 16384

noncomputable section

namespace Cert.KernelIdeal.Hand

open Cert.KernelIdeal Cert.KernelIdeal.Gen Cert.Hand
open Idealize.ShloMosaic Idealize.ShloMosaic.TcCoe

/-- The distance of row `r` to row `j` of one chunk, as the body adds it up. -/
def distIn (x : Vec Ideal S256x32 .f32) (u : Vec Ideal S2048x32 .f32) (s : Vec Ideal S1x2048 .f32) (r : Fin 256) (j : Fin 2048) : EReal :=
  (∑ d : Fin 32, x (ix2 r d) * x (ix2 r d) + ∑ d : Fin 32, x (ix2 r d) * u (ix2 j d)) + s (ix2 0 j)

/-- The least of one chunk's distances. -/
def leastIn (x : Vec Ideal S256x32 .f32) (u : Vec Ideal S2048x32 .f32) (s : Vec Ideal S1x2048 .f32) (r : Fin 256) : EReal :=
  Finset.univ.fold min (Ideal.ofBits .f32 2139095040#32) (distIn x u s r)

/-- The least index of one chunk, whose first row is row `n`, at which the distance is `v`; 8192 if there is none. -/
def firstIn (x : Vec Ideal S256x32 .f32) (u : Vec Ideal S2048x32 .f32) (s : Vec Ideal S1x2048 .f32) (r : Fin 256) (v : EReal)
    (n : BitVec 32) : BitVec 32 :=
  Finset.univ.fold IntOp.minsi 2147483647#32
    fun j : Fin 2048 => if distIn x u s r j = v then IntOp.addi (BitVec.ofNat 32 j.val) n else 8192#32

/-- A row's squared length, as the body adds it up. -/
theorem sq_apply (x : Vec Ideal S256x32 .f32) (r : Fin 256) :
    k0_pay4 x (ix2 r 0) = ∑ d : Fin 32, x (ix2 r d) * x (ix2 r d) := by
  pointwise [k0_pay4, k0_pay3]

/-- A row's product with a row of a chunk of the scaled table. -/
theorem cross_apply (x : Vec Ideal S256x32 .f32) (u : Vec Ideal S2048x32 .f32) (r : Fin 256) (j : Fin 2048) :
    k0_pay5 x u (ix2 r j) = ∑ d : Fin 32, x (ix2 r d) * u (ix2 j d) := by
  pointwise [k0_pay5, k0_pay3]

/-- The four chunks' products are one operation. -/
theorem cross_eq (x : Vec Ideal S256x32 .f32) (u : Vec Ideal S2048x32 .f32) :
    k0_pay6 x u = k0_pay5 x u ∧ k0_pay8 x u = k0_pay5 x u ∧ k0_pay10 (k0_pay3 x) u = k0_pay5 x u :=
  ⟨rfl, rfl, rfl⟩

/-- The least distance of a row is the least of the four chunks' least. -/
theorem least_apply (x : Vec Ideal S256x32 .f32) (u0 u1 u2 u3 : Vec Ideal S2048x32 .f32) (s0 s1 s2 s3 : Vec Ideal S1x2048 .f32) (r : Fin 256) :
    least x u0 u1 u2 u3 s0 s1 s2 s3 (ix2 r 0)
      = min (min (min (leastIn x u0 s0 r) (leastIn x u1 s1 r)) (leastIn x u2 s2 r)) (leastIn x u3 s3 r) := by
  pointwise [least, k0_pay11, k0_pay7, k0_pay9, (cross_eq _ _).1, (cross_eq _ _).2.1, (cross_eq _ _).2.2, sq_apply, cross_apply]
  rfl

/-- The code word of a row is the least of the four chunks' first indices at which the distance is the row's least. -/
theorem codes_apply (x : Vec Ideal S256x32 .f32) (u0 u1 u2 u3 : Vec Ideal S2048x32 .f32) (s0 s1 s2 s3 : Vec Ideal S1x2048 .f32) (r : Fin 256) :
    codes x u0 u1 u2 u3 s0 s1 s2 s3 (ix2 r 0)
      = IntOp.minsi (IntOp.minsi (IntOp.minsi
          (firstIn x u0 s0 r (least x u0 u1 u2 u3 s0 s1 s2 s3 (ix2 r 0)) 0#32)
          (firstIn x u1 s1 r (least x u0 u1 u2 u3 s0 s1 s2 s3 (ix2 r 0)) 2048#32))
          (firstIn x u2 s2 r (least x u0 u1 u2 u3 s0 s1 s2 s3 (ix2 r 0)) 4096#32))
          (firstIn x u3 s3 r (least x u0 u1 u2 u3 s0 s1 s2 s3 (ix2 r 0)) 6144#32) := by
  unfold codes
  generalize hM : least x u0 u1 u2 u3 s0 s1 s2 s3 = M
  have hM' : k0_pay11 (k0_pay3 x) (k0_pay4 x) (k0_pay7 x u0 s0 u1 s1) (k0_pay9 x u2 s2) u3 s3 = M := hM
  pointwise [k0_pay14, k0_pay12, k0_pay13, hM', (cross_eq _ _).1, (cross_eq _ _).2.1, (cross_eq _ _).2.2, sq_apply, cross_apply]
  unfold firstIn distIn
  simp only [add_comm (∑ d : Fin 32, x (ix2 r d) * x (ix2 r d))]

/-- The distance of row `r` to codebook row `k`, off the whole tables. -/
def distAt (x : Vec Ideal S256x32 .f32) (s : Vec Ideal S1x8192 .f32) (u : Vec Ideal S8192x32 .f32) (r : Fin 256) (k : Fin 8192) : EReal :=
  (∑ d : Fin 32, x (ix2 r d) * x (ix2 r d) + ∑ d : Fin 32, x (ix2 r d) * u (ix2 k d)) + s (ix2 0 k)

/-- A chunk's distances are those of the whole tables from the chunk's first row on. -/
theorem distIn_eq (x : Vec Ideal S256x32 .f32) (s : Vec Ideal S1x8192 .f32) (u : Vec Ideal S8192x32 .f32) (r : Fin 256)
    (n : Nat) (hn : n ≤ 6144) (h h') : distIn x (rows n h u) (lanes n h' s) r = part (distAt x s u r) n hn := by
  funext j
  have hj := j.isLt
  have hu (d : Fin 32) : rows n h u (ix2 j d) = u (ix2 ⟨n + j.val, by omega⟩ d) := by
    refine congrArg u (funext fun a => Fin.ext ?_)
    match a with
    | ⟨0, _⟩ => show n + 1 * j.val = n + j.val; omega
    | ⟨1, _⟩ => show 0 + 1 * d.val = d.val; omega
  have hs : lanes n h' s (ix2 0 j) = s (ix2 0 ⟨n + j.val, by omega⟩) := by
    refine congrArg s (funext fun a => Fin.ext ?_)
    match a with
    | ⟨0, _⟩ => rfl
    | ⟨1, _⟩ => show n + 1 * j.val = n + j.val; omega
  unfold distIn part distAt
  rw [hs]
  simp only [hu]

/-- The word the folds of distances start from is plus infinity. -/
theorem ofBits_top : Ideal.ofBits .f32 2139095040#32 = ⊤ := by simp [Ideal.ofBits, Ideal.ieee]

/-- The code word of a row is the least index at which its distances are least. -/
theorem codesAt_of_isFirst (x : Vec Ideal S256x32 .f32) (s : Vec Ideal S1x8192 .f32) (u : Vec Ideal S8192x32 .f32) (r : Fin 256)
    (k : Fin 8192) (hk : IsFirst (distAt x s u r) k) : codesAt x s u (ix2 r 0) = BitVec.ofNat 32 k.val := by
  unfold codesAt
  rw [codes_apply, least_apply]
  simp only [leastIn, firstIn, ofBits_top, distIn_eq x s u r 0 (by omega), distIn_eq x s u r 2048 (by omega),
    distIn_eq x s u r 4096 (by omega), distIn_eq x s u r 6144 (by omega)]
  have hl := hk.least_eq
  unfold leastOf at hl
  rw [hl]
  exact hk.first_eq

end Cert.KernelIdeal.Hand

end
-- ==== Proof.Array.lean ====
/- WHAT THE RESULT ARRAY HOLDS after the launch: the scratch tables are the first point's at every point (by induction on
   the point), each point writes the one-hot rows of its own block's code words, and the blocks tile the array. -/
module

public import proofs.«01_k».proof.Proof.Block
public import proofs.«01_k».proof.Proof.Gen.KernelIdeal.Value
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.KernelIdeal.Value (idx_facts2 covered_iff2 loc2Of)

variable {F : FTy → Type} [FloatOps F]
variable (m : (ℓ : Loc nD τ sig) → Buf (Elt F) ℓ) (ρ : Dev nD → PrngReg)

/-- The first argument as its buffer holds it at the launch. -/
abbrev inp (c : Dev nD) : Vec F S8x256x32 .f32 := m ((c : Thread nD τ).loc main_arg0)

/-- The codebook as its buffer holds it at the launch. -/
abbrev book (c : Dev nD) : Vec F S8192x32 .f32 := m ((c : Thread nD τ).loc main_arg1)

/-- The rows of point `t`: row `r` is token `32 t + r / 8` of batch `r % 8`. -/
def xblock (a : Vec F S8x256x32 .f32) (t : Nat) (ht : t < 8) : Vec F S256x32 .f32 := fun y =>
  a (ix3 (⟨(y 0).val % 8, Nat.mod_lt _ (by decide)⟩ : Fin 8)
    (⟨32 * t + (y 0).val / 8, by have : (y 0).val < 256 := (y 0).isLt; omega⟩ : Fin 256) (⟨(y 1).val, (y 1).isLt⟩ : Fin 32))

/-- Row `R` of the array the first window reads is token `R / 8` of batch `R % 8`. -/
theorem rows_apply (a : Vec F S8x256x32 .f32) (R : Fin 2048) (d : Fin 32) :
    shapeCast S2048x32 (transpose S256x8x32 [1, 0, 2] a transposes_S8x256x32_S256x8x32_1_0_2) shapeCasts_S256x8x32_S2048x32 (ix2 R d)
      = a (ix3 (⟨R.val % 8, Nat.mod_lt _ (by decide)⟩ : Fin 8) (⟨R.val / 8, by have := R.isLt; omega⟩ : Fin 256) d) := by
  rw [shapeCast_apply _ _ (ix2 R d) (ix3 (⟨R.val / 8, by have := R.isLt; omega⟩ : Fin 256) (⟨R.val % 8, Nat.mod_lt _ (by decide)⟩ : Fin 8) d)
    (by rw [Shape.rowMajor_val_three, Shape.rowMajor_val_two]
        show ((R.val / 8) * 8 + R.val % 8) * 32 + d.val = R.val * 32 + d.val
        omega)]
  pointwise

/-- The array the first window reads is the argument transposed and its rows joined. -/
theorem V_rows (c : Dev nD) : V m c main_v1
    = shapeCast S2048x32 (transpose S256x8x32 [1, 0, 2] (inp m c) transposes_S8x256x32_S256x8x32_1_0_2) shapeCasts_S256x8x32_S2048x32 := by
  unfold V
  after_results
  rfl

/-- The first window is at block row `t` at point `t`. -/
theorem idx_facts0 : ∀ t : Fin cfg0.N, win0_0.index t (0 : Fin 2) = t.val ∧ win0_0.index t (1 : Fin 2) = 0 :=
  (by decide +kernel : ∀ t : Fin grid0.N, _)

/-- The second window is at the one block there is at every point. -/
theorem idx_facts1 : ∀ t : Fin cfg0.N, win0_1.index t (0 : Fin 2) = 0 ∧ win0_1.index t (1 : Fin 2) = 0 :=
  (by decide +kernel : ∀ t : Fin grid0.N, _)

/-- There are eight points. -/
theorem lt_eight (t : Fin cfg0.N) : t.val < 8 := lt_of_lt_of_eq t.isLt N_0

/-- The first window's block at point `t`. -/
theorem iblk_zero (c : Dev nD) (t : Fin cfg0.N) : iblk m c 0 t = xblock (inp m c) t.val (lt_eight t) := by
  obtain ⟨e0, e1⟩ := idx_facts0 t
  have ht := lt_eight t
  funext y
  have hy0 : (y 0).val < 256 := (y 0).isLt
  have hy1 : (y 1).val < 32 := (y 1).isLt
  show V m c main_v1 (((cfg0.win 0).blk t).view.emb y) = _
  have he : ((cfg0.win 0).blk t).view.emb y = ix2 (⟨256 * t.val + (y 0).val, by omega⟩ : Fin 2048) (⟨(y 1).val, hy1⟩ : Fin 32) := by
    funext a; apply Fin.ext
    match a with
    | ⟨0, _⟩ => show win0_0.index t (0 : Fin 2) * 256 + 1 * (y 0).val = 256 * t.val + (y 0).val; omega
    | ⟨1, _⟩ => show win0_0.index t (1 : Fin 2) * 32 + 1 * (y 1).val = (y 1).val; omega
  rw [he, V_rows, rows_apply]
  unfold xblock
  refine congrArg (inp m c) (funext fun a => Fin.ext ?_)
  match a with
  | ⟨0, _⟩ => show (256 * t.val + (y 0).val) % 8 = (y 0).val % 8; omega
  | ⟨1, _⟩ => show (256 * t.val + (y 0).val) / 8 = 32 * t.val + (y 0).val / 8; omega
  | ⟨2, _⟩ => rfl

/-- The second window's block is the whole codebook at every point. -/
theorem iblk_one (c : Dev nD) (t : Fin cfg0.N) : iblk m c 1 t = book m c := by
  obtain ⟨e0, e1⟩ := idx_facts1 t
  funext y
  show V m c main_arg1 (((cfg0.win 1).blk t).view.emb y) = _
  have he : ((cfg0.win 1).blk t).view.emb y = y := by
    funext a; apply Fin.ext
    match a with
    | ⟨0, _⟩ => show win0_1.index t (0 : Fin 2) * 8192 + 1 * (y 0).val = (y 0).val; omega
    | ⟨1, _⟩ => show win0_1.index t (1 : Fin 2) * 32 + 1 * (y 1).val = (y 1).val; omega
  rw [he, V_main_arg1]

/-- After every point the two scratch arrays hold the tables made from the codebook at the first. -/
theorem tables (c : Dev nD) : ∀ (n : Nat) (hn : n < cfg0.N),
    (outsAt0 m c n hn).2 = (k0_pay1 (book m c), k0_pay2 (book m c))
  | 0, hn => by
    rw [outsAt0_A m c ⟨0, hn⟩ (Nat.zero_mod _)]
    dsimp only
    rw [scratch_A_0, scratch_A_1, iblk_one]
  | n + 1, hn => by
    have h8 : n + 1 < 8 := lt_of_lt_of_eq hn N_0
    rw [outsAt0_B m c ⟨n + 1, hn⟩ (by show ¬ (n + 1) % 8 = 0; omega)]
    exact tables c n (Nat.lt_of_succ_lt hn)

/-- What point `t` leaves in the result's block. -/
theorem block_at (c : Dev nD) (t : Fin cfg0.N) :
    (outsAt0 m c t.val t.isLt).1 = expand (codesAt (xblock (inp m c) t.val (lt_eight t)) (k0_pay1 (book m c)) (k0_pay2 (book m c))) := by
  by_cases h0 : t.val % 8 = 0
  · rw [outsAt0_A m c t h0]
    dsimp only
    rw [out_A, iblk_one, iblk_zero]
  · rw [outsAt0_B m c t h0]
    dsimp only
    rw [out_B, iblk_zero, tables]

/-- The whole result: at `(b, l)` the one-hot rows of the block that holds column `l`. -/
def result (a : Vec F S8x256x32 .f32) (w : Vec F S8192x32 .f32) : IVec S8x2097152 32 := fun i =>
  expand (codesAt (xblock a ((i 1).val / 262144) (by have : (i 1).val < 2097152 := (i 1).isLt; omega)) (k0_pay1 w) (k0_pay2 w)) (loc2Of i)

/-- The whole result at a column of block `t`. -/
theorem result_of_loc (a : Vec F S8x256x32 .f32) (w : Vec F S8192x32 .f32) (i : S8x2097152.Idx) (t : Nat) (ht : t < 8)
    (h : (i 1).val / 262144 = t) : result a w i = expand (codesAt (xblock a t ht) (k0_pay1 w) (k0_pay2 w)) (loc2Of i) := by
  subst h
  rfl

/-- Each point writes back its block of the whole result. -/
theorem flushed_eq (c : Dev nD) (t : Fin cfg0.N) :
    (dats m 0 c).flushed 2 t = ((cfg0.win 2).blk t).view.read (Elt F) (result (inp m c) (book m c)) := by
  show (cfg0.win 2).cut (grid0.coords t) ((dats m 0 c).after 2 t) = _
  rw [after0_2, block_at]
  obtain ⟨e0, e1, e2, e3, e4⟩ := idx_facts2 t
  have ht := lt_eight t
  funext y
  have hy0 : (y 0).val < 8 := (y 0).isLt
  have hy1 : (y 1).val < 262144 := (y 1).isLt
  have hb0 : (((cfg0.win 2).blk t).view.emb y 0).val = win0_2.index t (0 : Fin 2) * 8 + 1 * (y 0).val := rfl
  have hb1 : (((cfg0.win 2).blk t).view.emb y 1).val = win0_2.index t (1 : Fin 2) * 262144 + 1 * (y 1).val := rfl
  have hl : loc2Of (((cfg0.win 2).blk t).view.emb y) = (cfg0.win 2).xinj (grid0.coords t) y := by
    funext a; apply Fin.ext
    match a with
    | ⟨0, _⟩ => show (((cfg0.win 2).blk t).view.emb y 0).val % 8 = (y 0).val; rw [hb0]; omega
    | ⟨1, _⟩ => show (((cfg0.win 2).blk t).view.emb y 1).val % 262144 = (y 1).val; rw [hb1]; omega
  have hr := result_of_loc (inp m c) (book m c) (((cfg0.win 2).blk t).view.emb y) t.val (lt_eight t) (by rw [hb1]; omega)
  rw [hl] at hr
  have hc (E : IVec S8x262144 32) : (cfg0.win 2).cut (grid0.coords t) E y = E ((cfg0.win 2).xinj (grid0.coords t) y) := rfl
  have hv (R : IVec S8x2097152 32) : ((cfg0.win 2).blk t).view.read (Elt F) R y = R (((cfg0.win 2).blk t).view.emb y) := rfl
  exact (hc _).trans (hr.symm.trans (hv _).symm)

/-- The kernel's run: the result array ends at `result` of the arguments, which end as they were. -/
theorem run_result : θ_run defs (onTc (τ := τ) (main (F := F))) ⟨m, fun _ => 0, ρ⟩ fun r => ∀ c : Dev nD,
      r.2.mem ((c : Thread nD τ).loc main_v2) = result (inp m c) (book m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed_eq m c t)
    (fun i => (covered_iff2 i).2 (by
      have h0 : (i 0).val < 8 := (i 0).isLt; have h1 : (i 1).val < 2097152 := (i 1).isLt; omega))), (h c).2⟩)
    (Cert.KernelIdeal.Value.run_blocks m ρ)

end Cert.KernelIdeal.Hand

end
-- ==== Proof.Reference.lean ====
/- WHAT THE REFERENCE COMPUTES: its run, read at the result buffer, and the result at a batch and a column. The arg-min's
   fold of (value, index) pairs ends at the pair that is least by value and then by index, in whatever order the pairs come. -/
module

public import proofs.«01_k».proof.Proof.First
public import proofs.«01_k».proof.Proof.Gen.ReferenceIdeal
public import Idealize.ShloMosaic.Lib.Claim
public import Idealize.ShloMosaic.Lib.Pointwise
public import Idealize.ShloMosaic.Lib.StableHlo.Run

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.ShloMosaic.StableHlo Idealize.SL.Sem

/-! ## The arg-min of pairs -/

/-- `p` comes no later than `q`: a smaller value, or the same value and an index no larger. -/
def Before (p q : EReal × BitVec 32) : Prop := p.1 < q.1 ∨ (p.1 = q.1 ∧ p.2.toInt ≤ q.2.toInt)

/-- A pair comes no later than itself. -/
theorem Before.refl (p : EReal × BitVec 32) : Before p p := Or.inr ⟨rfl, le_refl _⟩

/-- The order of pairs is transitive. -/
theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- One step of the fold keeps the earlier of the two pairs. -/
theorem step_eq (a b : EReal × BitVec 32) :
    reducer_argmin_f32_i32 (F := Ideal) a b
      = if a.1 < b.1 then a else if a.1 = b.1 ∧ a.2.toInt < b.2.toInt then a else b := by
  obtain ⟨a1, a2⟩ := a
  obtain ⟨b1, b2⟩ := b
  simp only [reducer_argmin_f32_i32, Ideal.cmpf_def, Ideal.cmp, IntOp.ori, IntOp.andi, IntOp.cmpi, Scalar.select, BitVec.slt]
  rcases lt_trichotomy a1 b1 with h | h | h
  · simp [h, h.ne]
  · subst h
    by_cases h2 : a2.toInt < b2.toInt <;> simp [h2]
  · simp [h.not_gt, h.ne']

/-- One step of the fold gives one of its two pairs, and that one comes no later than either. -/
theorem step_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [step_eq]
  split
  · next h => exact ⟨Or.inl rfl, Before.refl _, Or.inl h⟩
  · next h =>
    split
    · next h' => exact ⟨Or.inl rfl, Before.refl _, Or.inr ⟨h'.1, h'.2.le⟩⟩
    · next h' =>
      refine ⟨Or.inr rfl, ?_, Before.refl _⟩
      rcases lt_or_eq_of_le (not_lt.mp h) with h1 | h1
      · exact Or.inl h1
      · exact Or.inr ⟨h1, not_lt.mp fun h2 => h' ⟨h1.symm, h2⟩⟩

/-- The fold ends at one of the pairs it met, and that pair comes no later than any of them. -/
theorem fold_spec : ∀ (l : List (EReal × BitVec 32)) (a : EReal × BitVec 32),
    (l.foldl (reducer_argmin_f32_i32 (F := Ideal)) a = a ∨ l.foldl (reducer_argmin_f32_i32 (F := Ideal)) a ∈ l)
      ∧ Before (l.foldl (reducer_argmin_f32_i32 (F := Ideal)) a) a
      ∧ ∀ q ∈ l, Before (l.foldl (reducer_argmin_f32_i32 (F := Ideal)) a) q
  | [], a => ⟨Or.inl rfl, Before.refl _, fun q hq => absurd hq List.not_mem_nil⟩
  | b :: l, a => by
    obtain ⟨h1, h2, h3⟩ := fold_spec l (reducer_argmin_f32_i32 (F := Ideal) a b)
    obtain ⟨s1, s2, s3⟩ := step_spec a b
    rw [List.foldl_cons]
    refine ⟨?_, h2.trans s2, fun q hq => ?_⟩
    · rcases h1 with h1 | h1
      · rw [h1]
        exact s1.imp id fun h => by rw [h]; exact List.mem_cons_self
      · exact Or.inr (List.mem_cons_of_mem _ h1)
    · rcases List.mem_cons.mp hq with rfl | hq
      · exact h2.trans s3
      · exact h3 q hq

/-- The pairs folded at a batch and a token are those of the 8192 codebook rows. -/
theorem mem_fiber (x : FVec Ideal S8x256x8192 .f32) (b : Fin 8) (r : Fin 256) (p : EReal × BitVec 32) :
    p ∈ Host.argReduceFiber x (iotaInDim S8x256x8192 32 2) reducesTo_S8x256x8192_S8x256_d2 (ix2 b r)
      ↔ ∃ j : Fin 8192, p = (x (ix3 b r j), BitVec.ofNat 32 j.val) := by
  have hd (i : S8x256x8192.Idx) : reducesTo_S8x256x8192_S8x256_d2.drop i = ix2 b r ↔ (i 0).val = b.val ∧ (i 1).val = r.val := by
    have d0 : (reducesTo_S8x256x8192_S8x256_d2.drop i 0).val = (i 0).val := Shape.ReducesTo.drop_apply_val_of_eq _ i 0 0
    have d1 : (reducesTo_S8x256x8192_S8x256_d2.drop i 1).val = (i 1).val := Shape.ReducesTo.drop_apply_val_of_eq _ i 1 1
    constructor
    · intro h
      rw [← d0, ← d1, h]
      exact ⟨rfl, rfl⟩
    · rintro ⟨h0, h1⟩
      funext a; apply Fin.ext
      match a with
      | ⟨0, _⟩ => exact d0.trans h0
      | ⟨1, _⟩ => exact d1.trans h1
  unfold Host.argReduceFiber
  simp only [List.mem_map, List.mem_filter, List.mem_finRange, true_and, decide_eq_true_eq]
  constructor
  · rintro ⟨n, hn, rfl⟩
    obtain ⟨h0, h1⟩ := (hd _).mp hn
    refine ⟨S8x256x8192.rowMajor.symm n 2, ?_⟩
    have e : S8x256x8192.rowMajor.symm n = ix3 b r (S8x256x8192.rowMajor.symm n 2) := by
      funext a; apply Fin.ext
      match a with
      | ⟨0, _⟩ => exact h0
      | ⟨1, _⟩ => exact h1
      | ⟨2, _⟩ => rfl
    exact Prod.ext (congrArg x e) rfl
  · rintro ⟨j, rfl⟩
    refine ⟨S8x256x8192.rowMajor (ix3 b r j), ?_, ?_⟩
    · rw [Equiv.symm_apply_apply]
      exact (hd _).mpr ⟨rfl, rfl⟩
    · rw [Equiv.symm_apply_apply]
      rfl

/-- The word the arg-min's fold starts from is plus infinity. -/
theorem ofBits_top : Ideal.ofBits .f32 2139095040#32 = ⊤ := by simp [Ideal.ofBits, Ideal.ieee]

/-- The word the products are scaled by is two. -/
theorem ofBits_two : Ideal.ofBits .f32 1073741824#32 = 2 := by
  simp [Ideal.ofBits, Ideal.ieee, -EReal.coe_mul]
  norm_num
  rfl

/-- The host's arg-min at a batch and a token is the least index at which the values are least. -/
theorem argmin_apply (x : FVec Ideal S8x256x8192 .f32) (b : Fin 8) (r : Fin 256) (k : Fin 8192)
    (hk : IsFirst (fun j => x (ix3 b r j)) k) :
    (Host.argReduce reducer_argmin_f32_i32 x (iotaInDim S8x256x8192 32 2) (constant S_ .f32 0x7F800000#32) (constantI S_ 32 0#32)
      reducesTo_S8x256x8192_S8x256_d2 h_S_ (ix2 b r)).2 = BitVec.ofNat 32 k.val := by
  rw [Ideal.argReduce_eq_reduce2, Host.reduce2_eq_foldl_fiber]
  have hlt := k.isLt
  obtain ⟨h1, h2, h3⟩ := fold_spec
    (Host.argReduceFiber x (iotaInDim S8x256x8192 32 2) reducesTo_S8x256x8192_S8x256_d2 (ix2 b r)) (⊤, 0#32)
  have hi : ((constant S_ .f32 0x7F800000#32 : FVec Ideal S_ .f32) (Shape.Idx.first h_S_), (constantI S_ 32 0#32) (Shape.Idx.first h_S_))
      = ((⊤, 0#32) : EReal × BitVec 32) := by
    show (Ideal.ofBits .f32 2139095040#32, 0#32) = _
    rw [ofBits_top]
  rw [hi]
  generalize hR : List.foldl (reducer_argmin_f32_i32 (F := Ideal)) (⊤, 0#32)
    (Host.argReduceFiber x (iotaInDim S8x256x8192 32 2) reducesTo_S8x256x8192_S8x256_d2 (ix2 b r)) = R at h1 h2 h3
  have hR' : R.2 = BitVec.ofNat 32 k.val := by
    have hbk := h3 _ ((mem_fiber x b r _).mpr ⟨k, rfl⟩)
    rcases h1 with h1 | h1
    · subst h1
      have ht : x (ix3 b r k) = ⊤ := by
        rcases hbk with h | ⟨h, _⟩
        · exact absurd h not_top_lt
        · exact h.symm
      have hz : k ≤ 0 := hk.2 0 (by show x (ix3 b r 0) ≤ x (ix3 b r k); rw [ht]; exact le_top)
      have hz' : k.val = 0 := Nat.le_zero.mp hz
      rw [hz']
    · obtain ⟨j, rfl⟩ := (mem_fiber x b r R).mp h1
      have hjlt := j.isLt
      rcases hbk with h | ⟨h, hle⟩
      · exact absurd h (not_lt.mpr (hk.1 j))
      · have hkj : k.val ≤ j.val := hk.2 j (le_of_eq h)
        dsimp only at hle
        rw [toInt_small _ (by omega), toInt_small _ (by omega)] at hle
        have : j.val = k.val := by omega
        show BitVec.ofNat 32 j.val = _
        rw [this]
  exact hR'

/-! ## The run -/

section
variable {F : FTy → Type} [FloatOps F]

/-- The distances of every token to every codebook row. -/
def dists (a : Vec F S8x256x32 .f32) (w : Vec F S8192x32 .f32) : FVec F S8x256x8192 .f32 :=
  addf (subf
      (broadcastInDim S8x256x8192 ![0, 1, 2] bcast_S8x256x1_S8x256x8192_0_1_2 (broadcastInDim S8x256x1 ![0, 1] bcast_S8x256_S8x256x1_0_1
        (Host.reduceAdd (mulf a a) (constant S_ .f32 0x00000000#32) reducesTo_S8x256x32_S8x256_d2 h_S_)))
      (mulf (broadcastInDim S8x256x8192 ![] bcast_S_S8x256x8192 (constant S_ .f32 0x40000000#32))
        (Host.dotGeneral dot_S8x256x32_S8192x32_S8x256x8192_2_1_01_0_n_n none a w)))
    (broadcastInDim S8x256x8192 ![0, 1, 2] bcast_S1x1x8192_S8x256x8192_0_1_2 (broadcastInDim S1x1x8192 ![2] bcast_S8192_S1x1x8192_2
      (Host.reduceAdd (mulf w w) (constant S_ .f32 0x00000000#32) reducesTo_S8192x32_S8192_d1 h_S_)))

/-- The least distance of every token and the codebook row it is at. -/
def least (x : FVec F S8x256x8192 .f32) : S8x256.Idx → F .f32 × BitVec 32 :=
  Host.argReduce reducer_argmin_f32_i32 x (iotaInDim S8x256x8192 32 2) (constant S_ .f32 0x7F800000#32) (constantI S_ 32 0#32)
    reducesTo_S8x256x8192_S8x256_d2 h_S_

/-- The one-hot rows of code words, each batch's rows joined. -/
def hot (v : IVec S8x256 32) : IVec S8x2097152 32 :=
  shapeCast S8x2097152 (extui 32 (cmpi .eq
      (broadcastInDim S8x256x8192 ![0, 1, 2] bcast_S8x256x1_S8x256x8192_0_1_2 (broadcastInDim S8x256x1 ![0, 1] bcast_S8x256_S8x256x1_0_1 v))
      (broadcastInDim S8x256x8192 ![0, 1, 2] bcast_S1x1x8192_S8x256x8192_0_1_2 (broadcastInDim S1x1x8192 ![2] bcast_S8192_S1x1x8192_2
        (iotaInDim S8192 32 0)))) natLt_1_32) shapeCasts_S8x256x8192_S8x2097152

/-- The reference's run: the result buffer ends at the one-hot rows of the code words; the arguments end as they were. -/
theorem run_result (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v21)
        = hot (fun j => (least (dists (m ((c.tc : Thread nD τ).loc main_arg0)) (m ((c.tc : Thread nD τ).loc main_arg1))) j).2)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  rfl

end

/-! ## The result at an index -/

/-- The code word of a batch's token is the least index at which its distances are least. -/
theorem least_apply (x : FVec Ideal S8x256x8192 .f32) (b : Fin 8) (r : Fin 256) (k : Fin 8192)
    (hk : IsFirst (fun j => x (ix3 b r j)) k) : (least x (ix2 b r)).2 = BitVec.ofNat 32 k.val := by
  unfold least
  rw [argmin_apply x b r k hk]

/-- The word of an equality test. -/
theorem bit_eq (x y : BitVec 32) : BitVec.setWidth 32 (IntOp.cmpi .eq x y) = if x = y then 1#32 else 0#32 := by
  by_cases h : x = y
  · simp [IntOp.cmpi, h]
  · rw [if_neg h]
    show BitVec.setWidth 32 (BitVec.ofBool (x == y)) = _
    rw [beq_eq_false_iff_ne.mpr h]
    rfl

/-- The one-hot rows at a batch and a column: one exactly where the column's number in its token is the token's code word. -/
theorem hot_apply (v : IVec S8x256 32) (b : Fin 8) (l : Fin 2097152) :
    hot v (ix2 b l) = if v (ix2 b ⟨l.val / 8192, by have := l.isLt; omega⟩) = BitVec.ofNat 32 (l.val % 8192) then 1#32 else 0#32 := by
  have hl := l.isLt
  unfold hot
  rw [shapeCast_apply _ _ (ix2 b l) (ix3 b (⟨l.val / 8192, by omega⟩ : Fin 256) (⟨l.val % 8192, Nat.mod_lt _ (by decide)⟩ : Fin 8192))
    (by rw [Shape.rowMajor_val_three, Shape.rowMajor_val_two]
        show (b.val * 256 + l.val / 8192) * 8192 + l.val % 8192 = b.val * 2097152 + l.val
        omega)]
  pointwise
  exact bit_eq _ _

/-- The distance of a token to a codebook row. -/
theorem dists_apply (a : Vec Ideal S8x256x32 .f32) (w : Vec Ideal S8192x32 .f32) (b : Fin 8) (r : Fin 256) (k : Fin 8192) :
    dists a w (ix3 b r k)
      = ∑ d : Fin 32, a (ix3 b r d) * a (ix3 b r d) - 2 * ∑ d : Fin 32, a (ix3 b r d) * w (ix2 k d)
        + ∑ d : Fin 32, w (ix2 k d) * w (ix2 k d) := by
  pointwise [dists]
  rw [ofBits_two]

end Cert.ReferenceIdeal.Hand

end
-- ==== Proof.Real.lean ====
/- ARRAYS OF REAL NUMBERS: over them, scaling one factor by minus two is subtracting twice the sum of products. -/
module

public import Idealize.ShloMosaic.PureOps.Ideal
public import Mathlib.Tactic.Ring

@[expose] public section

namespace Cert.Hand

open Idealize.ShloMosaic

/-- Every element is a real number. -/
def IsReal {S : Shape} (v : FVec Ideal S .f32) : Prop := ∀ i, (v i : EReal) ≠ ⊤ ∧ (v i : EReal) ≠ ⊥

/-- A sum of extended reals that are each a real is that sum of reals. -/
theorem coe_sum {n : Nat} (f : Fin n → ℝ) : (∑ d, (f d : EReal)) = ((∑ d, f d : ℝ) : EReal) := by
  induction n with
  | zero => simp
  | succ n ih => rw [Fin.sum_univ_succ, Fin.sum_univ_succ, ih, EReal.coe_add]

/-- Scaling one factor of each product by minus two is subtracting twice the sum of products, over reals. -/
theorem cross_real {n : Nat} (z : EReal) (f g : Fin n → EReal) (hf : ∀ d, f d ≠ ⊤ ∧ f d ≠ ⊥) (hg : ∀ d, g d ≠ ⊤ ∧ g d ≠ ⊥) :
    z + ∑ d, f d * (g d * (-2)) = z - 2 * ∑ d, f d * g d := by
  have ef (d : Fin n) : f d = ((f d).toReal : EReal) := (EReal.coe_toReal (hf d).1 (hf d).2).symm
  have eg (d : Fin n) : g d = ((g d).toReal : EReal) := (EReal.coe_toReal (hg d).1 (hg d).2).symm
  have e1 (d : Fin n) : f d * (g d * (-2)) = (((f d).toReal * ((g d).toReal * (-2)) : ℝ) : EReal) := by
    conv_lhs => rw [ef d, eg d]
    push_cast
    rfl
  have e2 (d : Fin n) : f d * g d = (((f d).toReal * (g d).toReal : ℝ) : EReal) := by
    conv_lhs => rw [ef d, eg d]
    push_cast
    rfl
  simp only [e1, e2, coe_sum]
  rw [sub_eq_add_neg, show (2 : EReal) = ((2 : ℝ) : EReal) from rfl, ← EReal.coe_mul, ← EReal.coe_neg]
  congr 2
  rw [Finset.mul_sum, ← Finset.sum_neg_distrib]
  exact Finset.sum_congr rfl fun d _ => by ring

end Cert.Hand
-- ==== Proof.Equation.lean ====
/- THE EQUATION: over finite arguments the kernel's distances are the reference's, so both find the same least index and
   the two results are one array. -/
module

public import proofs.«01_k».proof.Proof.Codes
public import proofs.«01_k».proof.Proof.Array
public import proofs.«01_k».proof.Proof.Reference
public import proofs.«01_k».proof.Proof.Real

@[expose] public section

set_option maxRecDepth 16384

noncomputable section

namespace Cert.Hand

open Cert.KernelIdeal Cert.KernelIdeal.Gen Cert.KernelIdeal.Hand
open Idealize.ShloMosaic
open Cert.KernelIdeal.Value (loc2Of)

/-- The word the second table is scaled by is minus two. -/
theorem ofBits_neg_two : Ideal.ofBits .f32 3221225472#32 = -2 := by
  simp [Ideal.ofBits, Ideal.ieee, -EReal.coe_mul]
  norm_num
  rfl

/-- The first table holds the squared length of each codebook row. -/
theorem table_sq (w : Vec Ideal S8192x32 .f32) (k : Fin 8192) : k0_pay1 w (ix2 0 k) = ∑ d : Fin 32, w (ix2 k d) * w (ix2 k d) := by
  pointwise [k0_pay1]

/-- The second table holds each codebook row times minus two. -/
theorem table_scaled (w : Vec Ideal S8192x32 .f32) (k : Fin 8192) (d : Fin 32) : k0_pay2 w (ix2 k d) = w (ix2 k d) * (-2) := by
  pointwise [k0_pay2]
  rw [ofBits_neg_two]

/-- The kernel's distance is the reference's, for finite arguments. -/
theorem dist_eq (a : Vec Ideal S8x256x32 .f32) (w : Vec Ideal S8192x32 .f32) (ha : IsReal (S := S8x256x32) a) (hw : IsReal (S := S8192x32) w)
    (t : Nat) (ht : t < 8) (r : Fin 256) (b : Fin 8) (s : Fin 256) (hb : b.val = r.val % 8) (hs : s.val = 32 * t + r.val / 8) (k : Fin 8192) :
    distAt (xblock a t ht) (k0_pay1 w) (k0_pay2 w) r k = Cert.ReferenceIdeal.Hand.dists a w (ix3 b s k) := by
  have hx (d : Fin 32) : xblock a t ht (ix2 r d) = a (ix3 b s d) := by
    refine congrArg a (funext fun e => Fin.ext ?_)
    match e with
    | ⟨0, _⟩ => exact hb.symm
    | ⟨1, _⟩ => exact hs.symm
    | ⟨2, _⟩ => rfl
  unfold distAt
  rw [Cert.ReferenceIdeal.Hand.dists_apply, table_sq]
  simp only [hx, table_scaled]
  rw [cross_real _ (fun d => a (ix3 b s d)) (fun d => w (ix2 k d)) (fun d => ha _) (fun d => hw _)]

/-- The row of a block that a batch and a column show. -/
def rowAt (b : Fin 8) (l : Fin 2097152) : Fin 256 := ⟨8 * (l.val % 262144 / 8192) + b.val, by have := b.isLt; omega⟩

/-- The kernel's result at a batch and a column, given the code word of its row. -/
theorem result_apply (a : Vec Ideal S8x256x32 .f32) (w : Vec Ideal S8192x32 .f32) (b : Fin 8) (l : Fin 2097152) (t : Nat) (ht : t < 8)
    (e : l.val / 262144 = t) (n : BitVec 32) (hn : codesAt (xblock a t ht) (k0_pay1 w) (k0_pay2 w) (ix2 (rowAt b l) 0) = n) :
    result a w (ix2 b l) = if n = BitVec.ofNat 32 (l.val % 8192) then 1#32 else 0#32 := by
  have hb := b.isLt
  have hl := l.isLt
  have hr : rowOf (loc2Of (ix2 b l)) = rowAt b l := by
    refine Fin.ext ?_
    show 8 * (l.val % 262144 / 8192) + b.val % 8 = 8 * (l.val % 262144 / 8192) + b.val
    omega
  have hm : ((loc2Of (ix2 b l)) 1).val % 8192 = l.val % 8192 := by
    show l.val % 262144 % 8192 = l.val % 8192
    omega
  rw [result_of_loc a w (ix2 b l) t ht e]
  unfold expand
  rw [hr, hm, hn]

/-- The code word of a batch's token is the same on both sides. -/
theorem code_eq (a : Vec Ideal S8x256x32 .f32) (w : Vec Ideal S8192x32 .f32) (ha : IsReal (S := S8x256x32) a) (hw : IsReal (S := S8192x32) w)
    (t : Nat) (ht : t < 8) (r : Fin 256) (b : Fin 8) (s : Fin 256) (hb : b.val = r.val % 8) (hs : s.val = 32 * t + r.val / 8) :
    codesAt (xblock a t ht) (k0_pay1 w) (k0_pay2 w) (ix2 r 0)
      = (Cert.ReferenceIdeal.Hand.least (Cert.ReferenceIdeal.Hand.dists a w) (ix2 b s)).2 := by
  obtain ⟨k, hk⟩ := exists_first (distAt (xblock a t ht) (k0_pay1 w) (k0_pay2 w) r)
  have hd : distAt (xblock a t ht) (k0_pay1 w) (k0_pay2 w) r = fun j => Cert.ReferenceIdeal.Hand.dists a w (ix3 b s j) :=
    funext fun j => dist_eq a w ha hw t ht r b s hb hs j
  refine (codesAt_of_isFirst _ _ _ r k hk).trans ?_
  rw [hd] at hk
  exact (Cert.ReferenceIdeal.Hand.least_apply _ b s k hk).symm

/-- The two results are one array, for finite arguments. -/
theorem results_eq (a : Vec Ideal S8x256x32 .f32) (w : Vec Ideal S8192x32 .f32) (ha : IsReal (S := S8x256x32) a) (hw : IsReal (S := S8192x32) w) :
    result a w = Cert.ReferenceIdeal.Hand.hot (fun j => (Cert.ReferenceIdeal.Hand.least (Cert.ReferenceIdeal.Hand.dists a w) j).2) := by
  funext i
  obtain ⟨b, l, rfl⟩ : ∃ (b : Fin 8) (l : Fin 2097152), i = ix2 b l := ⟨i 0, i 1, eq_ix2 i⟩
  have hb := b.isLt
  have hl := l.isLt
  rw [Cert.ReferenceIdeal.Hand.hot_apply]
  refine result_apply a w b l (l.val / 262144) (by omega) rfl _ (code_eq a w ha hw _ _ _ b _ ?_ ?_)
  · show b.val = (8 * (l.val % 262144 / 8192) + b.val) % 8
    omega
  · show l.val / 8192 = 32 * (l.val / 262144) + (8 * (l.val % 262144 / 8192) + b.val) / 8
    omega

end Cert.Hand

end
-- ==== Proof.Finite.lean ====
/- WHAT THE PRECONDITION SAYS: every element of both arguments is a real number. -/
module

public import proofs.«01_k».proof.Pre_finite
public import proofs.«01_k».proof.Proof.Real
public import Idealize.ShloMosaic.Lib.Pointwise
public import Idealize.ShloMosaic.Lib.ReduceAll

@[expose] public section

noncomputable section

namespace Cert.Pre_finite.Hand

open Cert.Pre_finite Cert.Hand Idealize.ShloMosaic

/-- The side conditions the precondition's text states. -/
theorem facts : Cert.Pre_finite.Facts where
  bcast_S_S8x256x32 := by decide
  reducesTo_S8x256x32_S_d0_1_2 := by decide
  h_S_ := by decide
  bcast_S_S8192x32 := by decide
  reducesTo_S8192x32_S_d0_1 := by decide

/-- An element whose absolute value is below plus infinity is a real number. -/
theorem real_of_abs (v : EReal) (h : Ideal.cmp .olt (max v (-v)) (Ideal.ofBits .f32 2139095040#32) = 1#1) : v ≠ ⊤ ∧ v ≠ ⊥ := by
  have ht : Ideal.ofBits .f32 2139095040#32 = ⊤ := by simp [Ideal.ofBits, Ideal.ieee]
  rw [ht] at h
  constructor
  · rintro rfl
    simp [Ideal.cmp] at h
  · rintro rfl
    simp [Ideal.cmp] at h

instance : Subsingleton S_.Idx := ⟨fun i j => funext fun a => a.elim0⟩

/-- The precondition makes both arguments real. -/
theorem real_of_pre [Cert.Pre_finite.Facts] (a : FVec Ideal S8x256x32 .f32) (w : FVec Ideal S8192x32 .f32)
    (h : Cert.Pre_finite.fn (F := Ideal) a w = fun _ => 1#1) : IsReal a ∧ IsReal w := by
  have h0 := congrFun h (fun d => d.elim0)
  dsimp only [fn] at h0
  obtain ⟨ha, hw⟩ := IntOp.andi_eq_one.mp h0
  refine ⟨fun i => ?_, fun i => ?_⟩
  · have := Host.reduce_andi_all _ _ _ _ _ ha i
    exact real_of_abs (a i) this
  · have := Host.reduce_andi_all _ _ _ _ _ hw i
    exact real_of_abs (w i) this

end Cert.Pre_finite.Hand

end
-- ==== Proof.lean ====
/- THE CLAIM, ASSEMBLED. The kernel's two readings and the reference run, end with every counter at zero and leave their
   arguments as they were; the idealization rewrote nothing; and, over finite arguments, the kernel's result is the
   reference's, the one-hot rows of each token's nearest codebook row. What one grid point writes is in Proof/Block.lean
   and Proof/Codes.lean, what the array holds in Proof/Array.lean, the reference in Proof/Reference.lean, the equation in
   Proof/Equation.lean, what the precondition says in Proof/Finite.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.SL.Sem

/-- The reference runs, leaves its arguments as they were and every counter at zero: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Hand.run_result (F := Ideal) m g)

/-- Over finite arguments the kernel and the reference end with one result array, and their arguments as they were. -/
theorem value : letI := Cert.Pre_finite.Hand.facts; Cert.algebraic_KernelIdeal_ReferenceIdeal_pre_finite := by
  letI := Cert.Pre_finite.Hand.facts
  intro m g m' g' hpre hagree
  refine ⟨fun c => Cert.KernelIdeal.Hand.result (Cert.KernelIdeal.Hand.inp m c) (Cert.KernelIdeal.Hand.book m c),
    Cert.KernelIdeal.Hand.run_result (F := Ideal) m g, ?_⟩
  refine (θ_run Cert.ReferenceIdeal.defs _ _).mono (fun r h c => ⟨(h c).1.trans ?_, (h c).2⟩)
    (Cert.ReferenceIdeal.Hand.run_result (F := Ideal) m' g')
  obtain ⟨ha, hw⟩ := Cert.Pre_finite.Hand.real_of_pre _ _ (hpre c)
  rw [(hagree c).1, (hagree c).2]
  exact (Cert.Hand.results_eq _ _ ha hw).symm

/-- Everything the certificate claims. -/
theorem claim : Cert.Claim := ⟨Cert.Kernel.Gen.facts, Cert.KernelIdeal.Gen.facts, Cert.ReferenceIdeal.Gen.facts, Cert.Pre_finite.Hand.facts,
  fun m g _ => Cert.Kernel.Gen.frame m g, fun m g _ => Cert.KernelIdeal.Gen.frame m g, fun m g _ => Cert.KernelIdeal.Gen.frame m g,
  fun m g _ => frame_reference m g, fun m g _ => frame_reference m g, trivial, value⟩

end Cert.Proof

end
